-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x2048 : Shape := ⟨2, ![2, 2048]⟩
abbrev S8192x768 : Shape := ⟨2, ![8192, 768]⟩
abbrev S768x8192 : Shape := ⟨2, ![768, 8192]⟩
abbrev S8192 : Shape := ⟨1, ![8192]⟩
abbrev S_ : Shape := ⟨0, ![]⟩

class Facts : Prop where
  reducesTo_S2x2048_S_d0_1 : S2x2048.ReducesTo [0, 1] S_
  h_S_ : 0 < S_.numel

variable [Facts]

def fn {F : FTy → Type} [FloatOps F] (main_arg0 : FVec F S2x2048 .f32) (main_arg1 : FVec F S2x2048 .f32) (main_arg2 : FVec F S8192x768 .f32) (main_arg3 : FVec F S768x8192 .f32) (main_arg4 : FVec F S8192 .f32) : IVec S_ 1 :=
  let main_v0 : FVec F S2x2048 .f32 := Host.floor main_arg0
  let main_v1 : IVec S2x2048 1 := cmpf .oeq main_arg0 main_v0
  let main_c : IVec S_ 1 := constantI S_ 1 1#1
  let main_v2 : IVec S_ 1 := (fun x v => Host.reduce IntOp.andi x v reducesTo_S2x2048_S_d0_1 h_S_) main_v1 main_c
  main_v2
-- ==== Kernel.lean ====
abbrev S2x2048 : Shape := ⟨2, ![2, 2048]⟩
abbrev S8192x768 : Shape := ⟨2, ![8192, 768]⟩
abbrev S768x8192 : Shape := ⟨2, ![768, 8192]⟩
abbrev S8192 : Shape := ⟨1, ![8192]⟩
abbrev S1x8192 : Shape := ⟨2, ![1, 8192]⟩
abbrev S8x128 : Shape := ⟨2, ![8, 128]⟩
abbrev S128x8192 : Shape := ⟨2, ![128, 8192]⟩
abbrev S1x128 : Shape := ⟨2, ![1, 128]⟩
abbrev S1x1x8192 : Shape := ⟨3, ![1, 1, 8192]⟩
abbrev S1 : Shape := ⟨1, ![1]⟩
abbrev S1x1x1 : Shape := ⟨3, ![1, 1, 1]⟩

abbrev nBuf : Space → Nat
  | .hbm => 7
  | .vmem => 13
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S8192x768, .f32⟩
  | .hbm, ⟨3, _⟩ => ⟨S768x8192, .f32⟩
  | .hbm, ⟨4, _⟩ => ⟨S8192, .f32⟩
  | .hbm, ⟨5, _⟩ => ⟨S1x8192, .f32⟩
  | .hbm, ⟨6, _⟩ => ⟨S2x2048, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S128x8192, .f32⟩
  | .local _ .vmem, ⟨5, _⟩ => ⟨S128x8192, .f32⟩
  | .local _ .vmem, ⟨6, _⟩ => ⟨S128x8192, .f32⟩
  | .local _ .vmem, ⟨7, _⟩ => ⟨S128x8192, .f32⟩
  | .local _ .vmem, ⟨8, _⟩ => ⟨S1x8192, .f32⟩
  | .local _ .vmem, ⟨9, _⟩ => ⟨S2x2048, .f32⟩
  | .local _ .vmem, ⟨10, _⟩ => ⟨S2x2048, .f32⟩
  | .local _ .vmem, ⟨11, _⟩ => ⟨S2x2048, .f32⟩
  | .local _ .vmem, ⟨12, _⟩ => ⟨S1x8192, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![3], ![false]⟩

def k0_cond3 (i : grid0.Coords) : BitVec 1 :=
  let arg0 : BitVec 32 := BitVec.ofNat 32 (i 0).val
  let c2_i32 : BitVec 32 := 2#32
  let v13 : BitVec 1 := Scalar.cmpi .eq arg0 c2_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c3_i32 : BitVec 32 := 3#32
  let v0 : BitVec 32 := Scalar.addi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.addi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x2048 : Shape := ⟨2, ![2, 2048]⟩
abbrev S8192x768 : Shape := ⟨2, ![8192, 768]⟩
abbrev S768x8192 : Shape := ⟨2, ![768, 8192]⟩
abbrev S8192 : Shape := ⟨1, ![8192]⟩
abbrev S_ : Shape := ⟨0, ![]⟩
abbrev S2x2048x1 : Shape := ⟨3, ![2, 2048, 1]⟩
abbrev S1 : Shape := ⟨1, ![1]⟩
abbrev S1x1x1 : Shape := ⟨3, ![1, 1, 1]⟩
abbrev S2x2048x768 : Shape := ⟨3, ![2, 2048, 768]⟩
abbrev S2x2048x8192 : Shape := ⟨3, ![2, 2048, 8192]⟩
abbrev S1x1x8192 : Shape := ⟨3, ![1, 1, 8192]⟩

abbrev nBuf : Space → Nat
  | .hbm => 56
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S8192x768, .f32⟩
  | .hbm, ⟨3, _⟩ => ⟨S768x8192, .f32⟩
  | .hbm, ⟨4, _⟩ => ⟨S8192, .f32⟩
  | .hbm, ⟨5, _⟩ => ⟨S2x2048, .i32⟩
  | .hbm, ⟨6, _⟩ => ⟨S_, .i32⟩
  | .hbm, ⟨7, _⟩ => ⟨S2x2048, .i32⟩
  | .hbm, ⟨8, _⟩ => ⟨S2x2048, .i1⟩
  | .hbm, ⟨9, _⟩ => ⟨S_, .i32⟩
  | .hbm, ⟨10, _⟩ => ⟨S2x2048, .i32⟩
  | .hbm, ⟨11, _⟩ => ⟨S2x2048, .i32⟩
  | .hbm, ⟨12, _⟩ => ⟨S2x2048, .i32⟩
  | .hbm, ⟨13, _⟩ => ⟨S2x2048x1, .i32⟩
  | .hbm, ⟨14, _⟩ => ⟨S1, .i32⟩
  | .hbm, ⟨15, _⟩ => ⟨S_, .i32⟩
  | .hbm, ⟨16, _⟩ => ⟨S2x2048x1, .i32⟩
  | .hbm, ⟨17, _⟩ => ⟨S2x2048x1, .i1⟩
  | .hbm, ⟨18, _⟩ => ⟨S1x1x1, .i32⟩
  | .hbm, ⟨19, _⟩ => ⟨S2x2048x1, .i32⟩
  | .hbm, ⟨20, _⟩ => ⟨S2x2048x1, .i1⟩
  | .hbm, ⟨21, _⟩ => ⟨S2x2048x1, .i1⟩
  | .hbm, ⟨22, _⟩ => ⟨S_, .i1⟩
  | .hbm, ⟨23, _⟩ => ⟨S2x2048, .i1⟩
  | .hbm, ⟨24, _⟩ => ⟨S2x2048x768, .f32⟩
  | .hbm, ⟨25, _⟩ => ⟨S2x2048x768, .i1⟩
  | .hbm, ⟨26, _⟩ => ⟨S_, .f32⟩
  | .hbm, ⟨27, _⟩ => ⟨S2x2048x768, .f32⟩
  | .hbm, ⟨28, _⟩ => ⟨S2x2048x768, .f32⟩
  | .hbm, ⟨29, _⟩ => ⟨S2x2048x8192, .f32⟩
  | .hbm, ⟨30, _⟩ => ⟨S1x1x8192, .f32⟩
  | .hbm, ⟨31, _⟩ => ⟨S2x2048x8192, .f32⟩
  | .hbm, ⟨32, _⟩ => ⟨S2x2048x8192, .f32⟩
  | .hbm, ⟨33, _⟩ => ⟨S_, .f32⟩
  | .hbm, ⟨34, _⟩ => ⟨S2x2048, .f32⟩
  | .hbm, ⟨35, _⟩ => ⟨S2x2048, .i1⟩
  | .hbm, ⟨36, _⟩ => ⟨S_, .f32⟩
  | .hbm, ⟨37, _⟩ => ⟨S2x2048, .f32⟩
  | .hbm, ⟨38, _⟩ => ⟨S2x2048, .f32⟩
  | .hbm, ⟨39, _⟩ => ⟨S2x2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2x2048, .f32⟩
  | .hbm, ⟨47, _⟩ => ⟨S2x2048, .i1⟩
  | .hbm, ⟨48, _⟩ => ⟨S2x2048, .i1⟩
  | .hbm, ⟨49, _⟩ => ⟨S2x2048x8192, .i32⟩
  | .hbm, ⟨50, _⟩ => ⟨S_, .f32⟩
  | .hbm, ⟨51, _⟩ => ⟨S_, .i32⟩
  | .hbm, ⟨52, _⟩ => ⟨S2x2048, .f32⟩
  | .hbm, ⟨53, _⟩ => ⟨S2x2048, .i32⟩
  | .hbm, ⟨54, _⟩ => ⟨S2x2048, .f32⟩
  | .hbm, ⟨55, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_cst_3 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_call1_v0 : Ref sig .tc := ⟨.hbm, 49, rfl⟩
abbrev main_call1_cst : Ref sig .tc := ⟨.hbm, 50, rfl⟩
abbrev main_call1_c : Ref sig .tc := ⟨.hbm, 51, rfl⟩
abbrev main_call1_v1_0 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩

abbrev nD : Nat := 1
abbrev τ : Topo := Topo.v7x

variable {F : FTy → Type} [FloatOps F]
-- ==== Proof.Step.lean ====
/- What one grid point of the kernel leaves behind, read as numbers: the partial row of products a point
   contributes, the running row in the scratch buffer after each of the three points, and the block of
   results stored at the last point. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Step

open Cert.KernelIdeal Cert.KernelIdeal.Gen Idealize.ShloMosaic Idealize.ShloMosaic.TcCoe Idealize.SL.Sem

/-- Entry `v` of a row of 128 numbers (row 2 of an 8-row block) times a 128-row block. -/
def prod (e : Vec Ideal S8x128 .f32) (w : Vec Ideal S128x8192 .f32) (v : Fin 8192) : EReal :=
  ∑ k : Fin 128, e (ix2 2 k) * w (ix2 k v)

variable (c : Dev nD) (i : grid0.Coords)
  (a1 : Memref sig .tc .vmem S8x128 .f32) (h1 : a1.IsWhole) (a2 : Memref sig .tc .vmem S8x128 .f32) (h2 : a2.IsWhole)
  (a3 : Memref sig .tc .vmem S128x8192 .f32) (h3 : a3.IsWhole) (a4 : Memref sig .tc .vmem S128x8192 .f32) (h4 : a4.IsWhole)
  (a5 : Memref sig .tc .vmem S1x8192 .f32) (h5 : a5.IsWhole) (a6 : Memref sig .tc .vmem S2x2048 .f32) (h6 : a6.IsWhole)
  (a7 : Memref sig .tc .vmem S2x2048 .f32) (h7 : a7.IsWhole) (a8 : Memref sig .tc .vmem S2x2048 .f32) (h8 : a8.IsWhole)
  (a9 : Memref sig .tc .vmem S1x8192 .f32) (h9 : a9.IsWhole)
  (x0 x1 : Vec Ideal S8x128 .f32) (x2 x3 : Vec Ideal S128x8192 .f32) (x4 : Vec Ideal S1x8192 .f32)
  (x5 x6 : Vec Ideal S2x2048 .f32) (xs : Vec Ideal S1x8192 .f32)

/-- The first point leaves the sum of its two blocks' products in the scratch row. -/
theorem first (hA : cond0_0 i) (hB : ¬cond0_1 i) (hC : ¬cond0_2 i) (v : Fin 8192) :
    sout0_A_0 c i a1 h1 a2 h2 a3 h3 a4 h4 a5 h5 a6 h6 a7 h7 a8 h8 a9 h9 hA hB hC x0 x1 x2 x3 x4 x5 x6 (ix2 0 v)
      = prod x0 x2 v + prod x1 x3 v := by
  frame_out
  pointwise [k0_pay2, k0_pay1, prod]

/-- The second point adds its two blocks' products to the scratch row. -/
theorem second (hA : ¬cond0_0 i) (hB : cond0_1 i) (hC : ¬cond0_2 i) (v : Fin 8192) :
    sout0_B_0 c i a1 h1 a2 h2 a3 h3 a4 h4 a5 h5 a6 h6 a7 h7 a8 h8 a9 h9 hA hB hC x0 x1 x2 x3 x4 x5 x6 xs (ix2 0 v)
      = xs (ix2 0 v) + (prod x0 x2 v + prod x1 x3 v) := by
  frame_out
  pointwise [k0_pay3, k0_pay1, prod]

/-- The last point's output: the tail of the body over the finished scratch row. -/
theorem last (hA : ¬cond0_0 i) (hB : cond0_1 i) (hC : cond0_2 i) :
    out0_C_7 c i a1 h1 a2 h2 a3 h3 a4 h4 a5 h5 a6 h6 a7 h7 a8 h8 a9 h9 hA hB hC x0 x1 x2 x3 x4 x5 x6 xs
      = k0_pay4 (fun j => xs j + (prod x0 x2 (j 1) + prod x1 x3 (j 1))) x4 x5 x6 := by
  frame_out
  congr 1
  funext j
  obtain ⟨a, v, rfl⟩ : ∃ a v, j = ix2 a v := ⟨_, _, eq_ix2 j⟩
  obtain rfl : a = 0 := Subsingleton.elim _ _
  pointwise [k0_pay3, k0_pay1, prod]

end Cert.KernelIdeal.Step

end
-- ==== Proof.KernelValue.lean ====
/- What the result array holds after the kernel's run: the three grid points unrolled, and every block a
   point reads written as a read of the argument arrays. -/
module

public import proofs.«01_k».proof.Proof.Step

@[expose] public section

set_option maxRecDepth 16384

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (c : Dev nD)

/-- Where each window's block starts at each of the three points. -/
theorem idx : ∀ t : Fin cfg0.N, win0_0.index t = ![0, t.val] ∧ win0_1.index t = ![0, t.val + 3]
    ∧ win0_2.index t = ![t.val, 0] ∧ win0_3.index t = ![t.val + 3, 0] ∧ win0_4.index t = ![0, 0]
    ∧ win0_5.index t = ![0, 0] ∧ win0_6.index t = ![0, 0] := by decide +kernel

/-- Place `k` of the 128 that block `q` of the six covers. -/
abbrev at128 (q : Fin 6) (k : Fin 128) : Fin 768 := ⟨128 * q.val + k.val, by omega⟩

/-- The first inner block of a point. -/
abbrev lo (t : Fin cfg0.N) : Fin 6 := ⟨t.val, Nat.lt_trans t.isLt (by decide)⟩

/-- The second inner block of a point, three after the first. -/
abbrev hi (t : Fin cfg0.N) : Fin 6 := ⟨t.val + 3, Nat.add_lt_add_right (show t.val < 3 from t.isLt) 3⟩

/-- The first embedding block of a point, at row 2. -/
theorem blk0 (t : Fin cfg0.N) (k : Fin 128) :
    iblk m c 0 t (ix2 (2 : Fin 8) k) = m ((c.tc : Thread nD τ).loc main_arg2) (ix2 (2 : Fin 8192) (at128 (lo t) k)) := by
  blk_point [iblk, V, idx t]

/-- The second embedding block of a point, at row 2. -/
theorem blk1 (t : Fin cfg0.N) (k : Fin 128) :
    iblk m c 1 t (ix2 (2 : Fin 8) k) = m ((c.tc : Thread nD τ).loc main_arg2) (ix2 (2 : Fin 8192) (at128 (hi t) k)) := by
  blk_point [iblk, V, idx t]

/-- The first matrix block of a point. -/
theorem blk2 (t : Fin cfg0.N) (k : Fin 128) (v : Fin 8192) :
    iblk m c 2 t (ix2 k v) = m ((c.tc : Thread nD τ).loc main_arg3) (ix2 (at128 (lo t) k) v) := by
  blk_point [iblk, V, idx t]

/-- The second matrix block of a point. -/
theorem blk3 (t : Fin cfg0.N) (k : Fin 128) (v : Fin 8192) :
    iblk m c 3 t (ix2 k v) = m ((c.tc : Thread nD τ).loc main_arg3) (ix2 (at128 (hi t) k) v) := by
  blk_point [iblk, V, idx t]

/-- The bias block is the bias. -/
theorem blk4 (t : Fin cfg0.N) (v : Fin 8192) :
    iblk m c 4 t (ix2 (0 : Fin 1) v) = m ((c.tc : Thread nD τ).loc main_arg4) (ix1 v) := by
  blk_point [iblk, idx t]

/-- The token block is the whole token array. -/
theorem blk5 (t : Fin cfg0.N) : iblk m c 5 t = m ((c.tc : Thread nD τ).loc main_arg0) := by
  blk_ext! [iblk, V, idx t]

/-- The draw block is the whole draw array. -/
theorem blk6 (t : Fin cfg0.N) : iblk m c 6 t = m ((c.tc : Thread nD τ).loc main_arg1) := by
  blk_ext! [iblk, V, idx t]

/-- The part of entry `v` of `emb[2] @ W` that block `q` of the six contributes. -/
def piece (emb : Vec Ideal S8192x768 .f32) (W : Vec Ideal S768x8192 .f32) (v : Fin 8192) (q : Fin 6) : EReal :=
  ∑ k : Fin 128, emb (ix2 2 (at128 q k)) * W (ix2 (at128 q k) v)

/-- The lower block's product at point `t` is its piece of the whole product. -/
theorem prod_lo (t : Fin cfg0.N) (v : Fin 8192) :
    Step.prod (iblk m c 0 t) (iblk m c 2 t) v
      = piece (m ((c.tc : Thread nD τ).loc main_arg2)) (m ((c.tc : Thread nD τ).loc main_arg3)) v (lo t) :=
  Finset.sum_congr rfl fun k _ => by rw [blk0, blk2]

/-- The upper block's product at point `t` is its piece of the whole product. -/
theorem prod_hi (t : Fin cfg0.N) (v : Fin 8192) :
    Step.prod (iblk m c 1 t) (iblk m c 3 t) v
      = piece (m ((c.tc : Thread nD τ).loc main_arg2)) (m ((c.tc : Thread nD τ).loc main_arg3)) v (hi t) :=
  Finset.sum_congr rfl fun k _ => by rw [blk1, blk3]

/-- The scratch row after the first two points. -/
def row2 (c : Dev nD) : Vec Ideal S1x8192 .f32 :=
  (Value.stAt0 m c 1 (by decide) (Value.stAt0 m c 0 (by decide) Value.junk0)).2

/-- It holds the sum of the first four blocks' pieces. -/
theorem row2_apply (v : Fin 8192) :
    row2 m c (ix2 0 v)
      = (fun p : Fin 6 → EReal => p 0 + p 3 + (p 1 + p 4))
        (piece (m ((c.tc : Thread nD τ).loc main_arg2)) (m ((c.tc : Thread nD τ).loc main_arg3)) v) := by
  have h0 := Value.stAt0_A m c t0_0 Value.junk0 (by decide) (by decide) (by decide)
  have h1 := Value.stAt0_B m c t0_1 (Value.stAt0 m c 0 (by decide) Value.junk0) (by decide) (by decide) (by decide)
  have e : row2 m c = _ := congrArg Prod.snd h1
  have e0 : (Value.stAt0 m c 0 (by decide) Value.junk0).2 = _ := congrArg Prod.snd h0
  rw [e]
  dsimp only
  rw [Step.second, e0]
  dsimp only
  rw [Step.first, prod_lo, prod_hi, prod_lo, prod_hi]
  rfl

/-- The result array: the body's tail over the finished row, the bias and the whole token and draw arrays. -/
theorem value :
    Value.G7 m c = k0_pay4 (fun j => row2 m c j
        + (Step.prod (iblk m c 0 t0_2) (iblk m c 2 t0_2) (j 1) + Step.prod (iblk m c 1 t0_2) (iblk m c 3 t0_2) (j 1)))
      (iblk m c 4 t0_2) (m ((c.tc : Thread nD τ).loc main_arg0)) (m ((c.tc : Thread nD τ).loc main_arg1)) := by
  rw [Value.G7_last]
  have h2 := Value.stAt0_C m c t0_2 (Value.stAt0 m c 1 (by decide) (Value.stAt0 m c 0 (by decide) Value.junk0))
    (by decide) (by decide) (by decide)
  refine (congrArg Prod.fst h2).trans ?_
  dsimp only
  rw [Step.last, blk5, blk6]
  rfl

/-- The six blocks' pieces, in the order the points add them, make up the whole product. -/
theorem pieces (emb : Vec Ideal S8192x768 .f32) (W : Vec Ideal S768x8192 .f32) (v : Fin 8192) :
    (fun p : Fin 6 → EReal => p 0 + p 3 + (p 1 + p 4) + (p 2 + p 5)) (piece emb W v)
      = ∑ k : Fin 768, emb (ix2 2 k) * W (ix2 k v) := by
  have h := Fin.sum_mul_add_fin 6 128 (fun k : Fin 768 => emb (ix2 2 k) * W (ix2 k v)) (by rfl)
  rw [← h, Fin.sum_univ_six]
  have e : ∀ q : Fin 6, piece emb W v q
      = ∑ k : Fin 128, (fun k : Fin 768 => emb (ix2 2 k) * W (ix2 k v)) ⟨q.val * 128 + k.val, by omega⟩ := fun q =>
    Finset.sum_congr rfl fun k _ => by
      have e : at128 q k = ⟨q.val * 128 + k.val, by omega⟩ := Fin.ext (by simp only; omega)
      rw [e]
  simp only [e]
  abel

/-- The finished row plus the bias is `emb[2] @ W + b`. -/
theorem logit (emb : Vec Ideal S8192x768 .f32) (W : Vec Ideal S768x8192 .f32) (b : Vec Ideal S8192 .f32)
    (hemb : emb = m ((c.tc : Thread nD τ).loc main_arg2)) (hW : W = m ((c.tc : Thread nD τ).loc main_arg3))
    (hb : b = m ((c.tc : Thread nD τ).loc main_arg4)) (v : Fin 8192) :
    (row2 m c (ix2 0 v)
        + (Step.prod (iblk m c 0 t0_2) (iblk m c 2 t0_2) v + Step.prod (iblk m c 1 t0_2) (iblk m c 3 t0_2) v))
        + iblk m c 4 t0_2 (ix2 0 v)
      = (∑ k : Fin 768, emb (ix2 2 k) * W (ix2 k v)) + b (ix1 v) := by
  subst hemb hW hb
  rw [row2_apply, prod_lo, prod_hi, blk4, ← pieces]
  rfl

end Cert.KernelIdeal.KernelValue

end
-- ==== Proof.ArgMax.lean ====
/- The first place where a row of 8192 numbers is greatest: what it is, that there is one, and the two ways
   the programs find it, a minimum over the places that attain the maximum and a running comparison of
   (number, place) pairs. -/
module

public import Idealize.ShloMosaic.PureOps.Ideal.Laws
public import Idealize.ShloMosaic.Lib.SortNet.Extract

@[expose] public section

noncomputable section

namespace Cert.ArgMax

open Idealize.ShloMosaic

/-- Place `n` is the first at which the row is greatest. -/
structure IsFirst (y : Fin 8192 → EReal) (n : Fin 8192) : Prop where
  greatest : ∀ k, y k ≤ y n
  least : ∀ k, y k = y n → n ≤ k

/-- Every row has such a place. -/
theorem exists_isFirst (y : Fin 8192 → EReal) : ∃ n, IsFirst y n := by
  obtain ⟨t, ht⟩ := Finite.exists_max y
  obtain ⟨n, hn, hl⟩ := (Finset.univ.filter fun k => y k = y t).exists_min_image id ⟨t, by simp⟩
  simp only [Finset.mem_filter, Finset.mem_univ, true_and, id] at hn hl
  exact ⟨n, fun k => hn ▸ ht k, fun k hk => hl k (hk.trans hn)⟩

/-- A place below 8192, as a word, reads back as itself. -/
theorem toInt_place (n : Fin 8192) : (BitVec.ofNat 32 n.val).toInt = n.val := by
  have := n.isLt
  rw [BitVec.toInt_eq_toNat_cond, BitVec.toNat_ofNat, Nat.mod_eq_of_lt (by omega), if_pos (by omega)]

/-- The row's maximum, folded from −∞, is its value at the first greatest place. -/
theorem fold_max {y : Fin 8192 → EReal} {n : Fin 8192} (h : IsFirst y n) :
    (Finset.univ : Finset (Fin 1 × Fin 8192)).fold max ⊥ (fun p => y p.2) = y n :=
  le_antisymm ((Finset.fold_max_le _).2 ⟨bot_le, fun p _ => h.greatest p.2⟩)
    ((Finset.le_fold_max _).2 (.inr ⟨(0, n), Finset.mem_univ _, le_rfl⟩))

/-- The signed minimum over the places that attain the maximum is the first of them. -/
theorem fold_min {y : Fin 8192 → EReal} {n : Fin 8192} (h : IsFirst y n) :
    ((Finset.univ : Finset (Fin 1 × Fin 8192)).fold IntOp.minsi 2147483647#32
      (fun p => if y p.2 = y n then BitVec.ofNat 32 p.2.val else 8192#32)).toInt = n.val := by
  rw [← Finset.fold_hom (m := BitVec.toInt) (op' := min) SortNet.toInt_minsi]
  have e : ∀ p : Fin 1 × Fin 8192, (n.val : ℤ) ≤ (if y p.2 = y n then BitVec.ofNat 32 p.2.val else 8192#32).toInt := by
    intro p
    split
    · next hp => rw [toInt_place]; exact_mod_cast h.least p.2 hp
    · have := n.isLt
      rw [show (8192#32 : BitVec 32).toInt = 8192 by decide]; omega
  refine le_antisymm ((Finset.fold_min_le _).2 (.inr ⟨(0, n), Finset.mem_univ _, ?_⟩))
    ((Finset.le_fold_min _).2 ⟨?_, fun p _ => e p⟩)
  · rw [if_pos rfl, toInt_place]
  · have := n.isLt
    rw [show (2147483647#32 : BitVec 32).toInt = 2147483647 by decide]; omega

/-- One (number, place) pair comes before another in the running comparison: greater, or as great and no later. -/
def Before (p q : EReal × BitVec 32) : Prop := q.1 < p.1 ∨ q.1 = p.1 ∧ p.2.toInt ≤ q.2.toInt

/-- Every pair comes no later than itself. -/
theorem Before.refl (p : EReal × BitVec 32) : Before p p := .inr ⟨rfl, le_rfl⟩

/-- Coming no later is transitive. -/
theorem Before.trans {p q r : EReal × BitVec 32} (h : Before p q) (h' : Before q r) : Before p r := by
  rcases h with h | ⟨h, i⟩ <;> rcases h' with h' | ⟨h', i'⟩
  · exact .inl (h'.trans h)
  · exact .inl (h' ▸ h)
  · exact .inl (h ▸ h')
  · exact .inr ⟨h'.trans h, i.trans i'⟩

/-- A fold of a step that keeps the earlier of two pairs ends at one of the pairs it has seen, before them all. -/
theorem foldl_before (f : EReal × BitVec 32 → EReal × BitVec 32 → EReal × BitVec 32)
    (hf : ∀ p q, f p q = p ∧ Before p q ∨ f p q = q ∧ Before q p) (l : List (EReal × BitVec 32)) (z : EReal × BitVec 32) :
    (l.foldl f z = z ∨ l.foldl f z ∈ l) ∧ Before (l.foldl f z) z ∧ ∀ p ∈ l, Before (l.foldl f z) p := by
  induction l generalizing z with
  | nil => exact ⟨.inl rfl, .refl _, fun _ h => absurd h (List.not_mem_nil)⟩
  | cons q l ih =>
    obtain ⟨hm, hz, hl⟩ := ih (f z q)
    rw [List.foldl_cons]
    have both : Before (f z q) z ∧ Before (f z q) q ∧ (f z q = z ∨ f z q = q) := by
      rcases hf z q with ⟨e, b⟩ | ⟨e, b⟩
      · rw [e]; exact ⟨.refl _, b, .inl rfl⟩
      · rw [e]; exact ⟨b, .refl _, .inr rfl⟩
    refine ⟨?_, hz.trans both.1, fun p hp => ?_⟩
    · rcases hm with hm | hm
      · rcases both.2.2 with e | e
        · exact .inl (hm.trans e)
        · exact .inr (by rw [hm, e]; exact List.mem_cons_self)
      · exact .inr (List.mem_cons_of_mem _ hm)
    · rcases List.mem_cons.1 hp with rfl | hp
      · exact hz.trans both.2.1
      · exact hl p hp

/-- Such a fold, from (−∞, 0) over the pairs (number, place) of a row in any order, ends at the first greatest place. -/
theorem foldl_isFirst (f : EReal × BitVec 32 → EReal × BitVec 32 → EReal × BitVec 32)
    (hf : ∀ p q, f p q = p ∧ Before p q ∨ f p q = q ∧ Before q p) (l : List (EReal × BitVec 32))
    {y : Fin 8192 → EReal} {n : Fin 8192} (h : IsFirst y n) (hl : ∀ p, p ∈ l ↔ ∃ k : Fin 8192, p = (y k, BitVec.ofNat 32 k.val)) :
    (l.foldl f (⊥, 0#32)).2.toInt = n.val := by
  obtain ⟨hm, hz, hb⟩ := foldl_before f hf l (⊥, 0#32)
  have hn := hb _ ((hl _).2 ⟨n, rfl⟩)
  rcases hm with hm | hm
  · rw [hm] at hn ⊢
    rcases hn with hn | ⟨hn, hi⟩
    · exact absurd hn not_lt_bot
    · simp only at hn
      have h0 : n ≤ 0 := h.least 0 (le_antisymm (h.greatest 0) (hn ▸ bot_le))
      have : n.val = 0 := by simpa using h0
      rw [this]; rfl
  · obtain ⟨k, e⟩ := (hl _).1 hm
    rw [e] at hn ⊢
    rw [toInt_place]
    rcases hn with hn | ⟨hn, hi⟩
    · exact absurd hn (not_lt.2 (h.greatest k))
    · simp only [toInt_place] at hn hi
      have h1 := h.least k hn.symm
      have h2 : n.val ≤ k.val := h1
      omega

end Cert.ArgMax

end
-- ==== Proof.Tail.lean ====
/- The tail of the kernel's last point, read at one token. -/
module

public import proofs.«01_k».proof.Proof.Gen.KernelIdeal.Skeleton
public import Idealize.ShloMosaic.Lib.Pipeline.ValueKit
public import Idealize.ShloMosaic.Lib.Pointwise
public import proofs.«01_k».proof.Proof.ArgMax

@[expose] public section

set_option maxRecDepth 16384

noncomputable section

namespace Cert.KernelIdeal.Tail

open Cert.KernelIdeal Cert.KernelIdeal.Gen Idealize.ShloMosaic Idealize.ShloMosaic.TcCoe Idealize.SL.Sem

/-- The tail at token `(i, j)`: where the token is 2 and the draw is below one tenth, the first place at which the
    finished row plus the bias is greatest; the token itself elsewhere. -/
theorem tail_apply (acc b2 : Vec Ideal S1x8192 .f32) (x r : Vec Ideal S2x2048 .f32) (i : Fin 2) (j : Fin 2048)
    {n : Fin 8192} (h : ArgMax.IsFirst (fun v => acc (ix2 0 v) + b2 (ix2 0 v)) n) :
    k0_pay4 acc b2 x r (ix2 i j)
      = Scalar.select (IntOp.andi (BitVec.ofBool (decide (x (ix2 i j) = Ideal.ofBits .f32 0x40000000#32)))
          (BitVec.ofBool (decide (r (ix2 i j) < Ideal.ofBits .f32 0x3DCCCCCD#32))))
        (((n.val : ℤ) : ℝ) : EReal) (x (ix2 i j)) := by
  pointwise [k0_pay4]
  have hmax := ArgMax.fold_max h
  have hmin := ArgMax.fold_min h
  have hbot : Ideal.ofBits .f32 4286578688#32 = ⊥ := by simp [Ideal.ofBits, Ideal.ieee]
  rw [hbot, hmax]
  rw [hmin]

end Cert.KernelIdeal.Tail

end
-- ==== Proof.RefRun.lean ====
/- What the reference's run leaves in its result array, as one term over the five arguments, cut into the
   stages a reader of the reference would name: the looked-up rows, the logits, the test that picks the
   entries to replace, and the result. -/
module

public import proofs.«01_k».proof.Proof.Gen.ReferenceIdeal
public import proofs.«01_k».proof.Defs
public import Idealize.ShloMosaic.Lib.Claim
public import Idealize.ShloMosaic.Lib.Pointwise
public import Idealize.ShloMosaic.Lib.Tactic.CleanTypes
public import Idealize.ShloMosaic.Lib.Quiescent

@[expose] public section

set_option maxRecDepth 16384

noncomputable section

namespace Cert.ReferenceIdeal.RefRun

open Cert.ReferenceIdeal Idealize.ShloMosaic Idealize.ShloMosaic.TcCoe Idealize.SL.Sem
open Cert.ReferenceIdeal.Facts₀

attribute [local instance] Cert.ReferenceIdeal.Gen.facts

/-- The row numbers as the lookup wraps them: a negative token counts from the end of the table. -/
def wrapped (tok : IVec S2x2048 32) : IVec S2x2048x1 32 :=
  broadcastInDim S2x2048x1 ![0, 1] bcast_S2x2048_S2x2048x1_0_1
    (select (cmpi .slt tok (broadcastInDim S2x2048 ![] bcast_S_S2x2048 (constantI S_ 32 0#32)))
      (addi tok (broadcastInDim S2x2048 ![] bcast_S_S2x2048 (constantI S_ 32 8192#32))) tok)

/-- Which of the wrapped row numbers lie inside the table. -/
def inside (w : IVec S2x2048x1 32) : IVec S2x2048 1 :=
  Host.reduce IntOp.andi
    (andi (cmpi .sge w (broadcastInDim S2x2048x1 ![] bcast_S_S2x2048x1 (constantI S_ 32 0#32)))
      (cmpi .sle w (broadcastInDim S2x2048x1 ![0, 1, 2] bcast_S1x1x1_S2x2048x1_0_1_2
        (broadcastInDim S1x1x1 ![2] bcast_S1_S1x1x1_2 (constantI S1 32 8191#32)))))
    (constantI S_ 1 1#1) reducesTo_S2x2048x1_S2x2048_d2 h_S_

/-- The looked-up rows of the table. -/
def rows (emb : FVec Ideal S8192x768 .f32) (tok : IVec S2x2048 32) : FVec Ideal S2x2048x768 .f32 :=
  select (broadcastInDim S2x2048x768 ![0, 1] bcast_S2x2048_S2x2048x768_0_1 (inside (wrapped tok)))
    (Host.gather gather_S8192x768_S2x2048x1_S2x2048x768_2_0_n_n_0_2_1768 emb (wrapped tok))
    (broadcastInDim S2x2048x768 ![] bcast_S_S2x2048x768 (constant S_ .f32 0x7FC00000#32))

/-- The logits: the looked-up rows times the weights, plus the bias. -/
def logits (X : FVec Ideal S2x2048 .f32) (emb : FVec Ideal S8192x768 .f32) (W : FVec Ideal S768x8192 .f32)
    (b : FVec Ideal S8192 .f32) : FVec Ideal S2x2048x8192 .f32 :=
  addf (Host.dotGeneral dot_S2x2048x768_S768x8192_S2x2048x8192_2_0_01_1_n_n none (rows emb (fptosi 32 X)) W)
    (broadcastInDim S2x2048x8192 ![0, 1, 2] bcast_S1x1x8192_S2x2048x8192_0_1_2
      (broadcastInDim S1x1x8192 ![2] bcast_S8192_S1x1x8192_2 b))

/-- The closeness test of the tokens against 2. -/
def close (X : FVec Ideal S2x2048 .f32) : IVec S2x2048 1 :=
  cmpf .ole (Host.absf (subf X (broadcastInDim S2x2048 ![] bcast_S_S2x2048 (constant S_ .f32 0x40000000#32))))
    (broadcastInDim S2x2048 ![] bcast_S_S2x2048
      (addf (constant S_ .f32 0x322BCC77#32)
        (mulf (constant S_ .f32 0x3727C5AC#32) (Host.absf (constant S_ .f32 0x40000000#32)))))

/-- The draw test: the random number is below one tenth. -/
def drawn (r : FVec Ideal S2x2048 .f32) : IVec S2x2048 1 :=
  cmpf .olt r (broadcastInDim S2x2048 ![] bcast_S_S2x2048 (constant S_ .f32 0x3DCCCCCD#32))

/-- The index the arg-max finds along the last axis. -/
def argmax (y : FVec Ideal S2x2048x8192 .f32) : IVec S2x2048 32 := fun j =>
  (Host.argReduce reducer_argmax_f32_i32 y (iotaInDim S2x2048x8192 32 2) (constant S_ .f32 0xFF800000#32)
    (constantI S_ 32 0#32) reducesTo_S2x2048x8192_S2x2048_d2 h_S_ j).2

/-- The reference's result. -/
def result (X r : FVec Ideal S2x2048 .f32) (emb : FVec Ideal S8192x768 .f32) (W : FVec Ideal S768x8192 .f32)
    (b : FVec Ideal S8192 .f32) : FVec Ideal S2x2048 .f32 :=
  select (andi (close X) (drawn r)) (sitofp .f32 (argmax (logits X emb W b))) X

/-- Every run of the reference ends with the result array holding `result` of the arguments, the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  hlo_run
  simp -implicitDefEqProofs only [StableHlo.TRef.toBuf, StableHlo.TRef.ofBuf, cast_cast, cast_eq]
  clean_types
  unfold result argmax logits rows close drawn inside wrapped
  rfl

/-- The reference runs, keeps its arguments, and ends with every counter at zero. -/
theorem frame : Cert.quiescent_ReferenceIdeal := by
  intro m g _
  exact θ_run_mono (run m g) fun r h => ⟨fun c => (h c).2, sem_eq_zero_of_no_sems (by decide) r.2⟩

end Cert.ReferenceIdeal.RefRun
end
-- ==== Proof.RefArg.lean ====
/- The reference's arg-max, read at one token: the first place at which the token's logits are greatest. -/
module

public import proofs.«01_k».proof.Proof.RefRun
public import proofs.«01_k».proof.Proof.ArgMax
public import Idealize.ShloMosaic.Lib.Pipeline.ValueKit

@[expose] public section

set_option maxRecDepth 16384

noncomputable section

namespace Cert.ReferenceIdeal.RefArg

open Cert.ReferenceIdeal Cert.ReferenceIdeal.RefRun Idealize.ShloMosaic Idealize.ShloMosaic.TcCoe
open Cert.ReferenceIdeal.Facts₀

attribute [local instance] Cert.ReferenceIdeal.Gen.facts

/-- The running comparison keeps the pair that comes before. -/
theorem reducer_before (p q : EReal × BitVec 32) :
    reducer_argmax_f32_i32 (F := Ideal) p q = p ∧ ArgMax.Before p q ∨ reducer_argmax_f32_i32 (F := Ideal) p q = q ∧ ArgMax.Before q p := by
  obtain ⟨a, s⟩ := p
  obtain ⟨b, t⟩ := q
  unfold reducer_argmax_f32_i32 ArgMax.Before
  simp only [Ideal.cmpf_def, Ideal.cmp]
  rcases lt_trichotomy a b with h | h | h
  · right
    simp [h, h.ne, h.not_gt, Scalar.select, IntOp.ori, IntOp.andi]
  · subst h
    by_cases hs : s.toInt < t.toInt
    · left
      simp [hs, hs.le, BitVec.slt, IntOp.cmpi, Scalar.select, IntOp.ori, IntOp.andi]
    · right
      simp [hs, not_lt.1 hs, BitVec.slt, IntOp.cmpi, Scalar.select, IntOp.ori, IntOp.andi]
  · left
    simp [h, h.ne', h.not_gt, Scalar.select, IntOp.ori, IntOp.andi]

/-- Dropping the last coordinate of a logit's index leaves its token's. -/
theorem drop_eq_iff (q : S2x2048x8192.Idx) (i : Fin 2) (j : Fin 2048) :
    reducesTo_S2x2048x8192_S2x2048_d2.drop q = ix2 i j ↔ ∃ v, q = ix3 i j v := by
  have h0 := Shape.ReducesTo.drop_apply_val_of_eq reducesTo_S2x2048x8192_S2x2048_d2 q 0 0
  have h1 := Shape.ReducesTo.drop_apply_val_of_eq reducesTo_S2x2048x8192_S2x2048_d2 q 1 1
  obtain ⟨a, b, v, rfl⟩ : ∃ a b v, q = ix3 a b v := ⟨_, _, _, eq_ix3 q⟩
  constructor
  · intro e
    rw [e] at h0 h1
    have ha : i.val = a.val := h0
    have hb : j.val = b.val := h1
    exact ⟨v, by rw [Fin.ext ha, Fin.ext hb]⟩
  · rintro ⟨w, e⟩
    have ea : a = i := congrFun e 0
    have eb : b = j := congrFun e 1
    rw [← ea, ← eb]
    funext d
    apply Fin.ext
    match d with
    | ⟨0, _⟩ => exact h0
    | ⟨1, _⟩ => exact h1

/-- The pairs the running comparison meets at token `(i, j)`: the token's logits with their places. -/
theorem mem_fiber (y : FVec Ideal S2x2048x8192 .f32) (i : Fin 2) (j : Fin 2048) (p : EReal × BitVec 32) :
    p ∈ Host.argReduceFiber y (iotaInDim S2x2048x8192 32 2) reducesTo_S2x2048x8192_S2x2048_d2 (ix2 i j)
      ↔ ∃ k : Fin 8192, p = (y (ix3 i j k), BitVec.ofNat 32 k.val) := by
  unfold Host.argReduceFiber
  refine List.mem_map.trans ⟨?_, ?_⟩
  · rintro ⟨q, hq, rfl⟩
    obtain ⟨v, e⟩ := (drop_eq_iff _ i j).1 (of_decide_eq_true (List.mem_filter.1 hq).2)
    rw [e]
    exact ⟨v, rfl⟩
  · rintro ⟨v, rfl⟩
    have e := Equiv.symm_apply_apply S2x2048x8192.rowMajor (ix3 i j v)
    refine ⟨S2x2048x8192.rowMajor (ix3 i j v), List.mem_filter.2 ⟨List.mem_finRange _, decide_eq_true ?_⟩, ?_⟩
    · rw [e]
      exact (drop_eq_iff _ i j).2 ⟨v, rfl⟩
    · rw [e]
      rfl

/-- The place an arg-max ends at, as the running comparison over the pairs it meets. -/
theorem argReduce_snd {s t u : Shape} {axes : List (Fin s.rank)}
    (f : EReal × BitVec 32 → EReal × BitVec 32 → EReal × BitVec 32) (x : FVec Ideal s .f32) (y : IVec s 32)
    (ix : FVec Ideal u .f32) (iy : IVec u 32) (h : s.ReducesTo axes t) (hu : 0 < u.numel) (j : t.Idx)
    (hx : ix (Shape.Idx.first hu) = ⊥) (hy : iy (Shape.Idx.first hu) = 0#32) :
    (fun j => (Host.argReduce (F := Ideal) (φ := .f32) f x y ix iy h hu j).2) j
      = ((Host.argReduceFiber x y h j).foldl f (⊥, 0#32)).2 := by
  have e := Host.reduce2_eq_foldl_fiber f x y ix iy h hu j
  rw [hx, hy] at e
  rw [← e, ← Ideal.argReduce_eq_reduce2]

/-- The arg-max as such a running comparison. -/
theorem argmax_eq (y : FVec Ideal S2x2048x8192 .f32) (j : S2x2048.Idx) :
    argmax y j = ((Host.argReduceFiber y (iotaInDim S2x2048x8192 32 2) reducesTo_S2x2048x8192_S2x2048_d2 j).foldl
      (reducer_argmax_f32_i32 (F := Ideal)) (⊥, 0#32)).2 := by
  have e : argmax y = fun j => (Host.argReduce (reducer_argmax_f32_i32 (F := Ideal)) y (iotaInDim S2x2048x8192 32 2)
    (constant (F := Ideal) S_ .f32 0xFF800000#32) (constantI S_ 32 0#32) reducesTo_S2x2048x8192_S2x2048_d2 h_S_
    j).2 := rfl
  have hbot : Ideal.ofBits .f32 4286578688#32 = ⊥ := by simp [Ideal.ofBits, Ideal.ieee]
  exact (congrFun e j).trans (argReduce_snd _ y _ _ _ _ _ j hbot rfl)

/-- The arg-max at token `(i, j)` is the first place at which the token's logits are greatest. -/
theorem argmax_apply (y : FVec Ideal S2x2048x8192 .f32) (i : Fin 2) (j : Fin 2048) {n : Fin 8192}
    (h : ArgMax.IsFirst (fun v => y (ix3 i j v)) n) : (argmax y (ix2 i j)).toInt = n.val :=
  (congrArg BitVec.toInt (argmax_eq y (ix2 i j))).trans
    (ArgMax.foldl_isFirst _ reducer_before _ h (mem_fiber y i j))

end Cert.ReferenceIdeal.RefArg
end
-- ==== Proof.RefLogits.lean ====
/- The reference's logits at a token equal to 2. -/
module

public import proofs.«01_k».proof.Proof.RefRun
public import Idealize.ShloMosaic.Lib.Pipeline.ValueKit

@[expose] public section

set_option maxRecDepth 16384

noncomputable section

namespace Cert.ReferenceIdeal.RefLogits

open Cert.ReferenceIdeal Cert.ReferenceIdeal.RefRun Idealize.ShloMosaic Idealize.ShloMosaic.TcCoe
open Cert.ReferenceIdeal.Facts₀

attribute [local instance] Cert.ReferenceIdeal.Gen.facts

/-- A lookup whose row number is 2 reads row 2 of the table. -/
theorem gather_apply (x : FVec Ideal S8192x768 .f32) (w : IVec S2x2048x1 32) (i : Fin 2) (j : Fin 2048) (k : Fin 768)
    (h : w (ix3 i j 0) = 2#32) :
    Host.gather gather_S8192x768_S2x2048x1_S2x2048x768_2_0_n_n_0_2_1768 x w (ix3 i j k) = x (ix2 2 k) := by
  unfold Host.gather
  congr 1
  funext a
  apply Fin.ext
  match a with
  | ⟨0, _⟩ =>
    have hs : GatherDims.start gather_S8192x768_S2x2048x1_S2x2048x768_2_0_n_n_0_2_1768 (ix3 i j k) w 0 = 2 := by
      unfold GatherDims.start
      rw [dif_pos (show (0 : Fin S8192x768.rank) ∈ gather_S8192x768_S2x2048x1_S2x2048x768_2_0_n_n_0_2_1768.startIndexMap from
        List.mem_singleton.2 rfl)]
      have e : GatherDims.siIdx gather_S8192x768_S2x2048x1_S2x2048x768_2_0_n_n_0_2_1768 (ix3 i j k) ⟨0, Nat.zero_lt_one⟩ = ix3 i j 0 := by
        funext b
        apply Fin.ext
        match b with
        | ⟨0, _⟩ => rfl
        | ⟨1, _⟩ => rfl
        | ⟨2, _⟩ => rfl
      refine (congrArg (fun z => min (w z).toInt.toNat _) e).trans ?_
      rw [h]
      rfl
    exact congrArg (· + 0 + 0) hs
  | ⟨1, _⟩ =>
    exact Nat.zero_add _

variable (tok : IVec S2x2048 32) (i : Fin 2) (j : Fin 2048) (h : tok (ix2 i j) = 2#32)

include h in
/-- A row number 2 is not wrapped. -/
theorem wrapped_apply (k : Fin 1) : wrapped tok (ix3 i j k) = 2#32 := by
  pointwise [wrapped]
  rw [h]
  decide

include h in
/-- Row 2 lies inside the table. -/
theorem inside_apply : inside (wrapped tok) (ix2 i j) = 1#1 := by
  pointwise [inside]
  simp only [wrapped_apply tok i j h]
  decide

include h in
/-- The row looked up is row 2. -/
theorem rows_apply (emb : FVec Ideal S8192x768 .f32) (k : Fin 768) : rows emb tok (ix3 i j k) = emb (ix2 2 k) := by
  pointwise [rows]
  rw [inside_apply tok i j h, gather_apply _ _ _ _ _ (wrapped_apply tok i j h 0)]
  rfl

/-- Where the token truncates to 2, the logits are `emb[2] @ W + b`. -/
theorem logits_apply (X : FVec Ideal S2x2048 .f32) (emb : FVec Ideal S8192x768 .f32) (W : FVec Ideal S768x8192 .f32)
    (b : FVec Ideal S8192 .f32) (hX : fptosi 32 X (ix2 i j) = 2#32) (v : Fin 8192) :
    logits X emb W b (ix3 i j v) = (∑ k : Fin 768, emb (ix2 2 k) * W (ix2 k v)) + b (ix1 v) := by
  pointwise [logits]
  simp only [rows_apply _ i j hX]

end Cert.ReferenceIdeal.RefLogits

end
-- ==== Proof.Whole.lean ====
/- The tokens of the precondition are whole numbers (or infinite), and for such a token the reference's
   closeness test against 2 is equality with 2. -/
module

public import Idealize.ShloMosaic.PureOps.Ideal.Laws

@[expose] public section

noncomputable section

namespace Cert.Whole

open Idealize.ShloMosaic

/-- The reference's tolerance at 2. -/
def tol : EReal := Ideal.ofBits .f32 0x322BCC77#32
  + Ideal.ofBits .f32 0x3727C5AC#32 * max (Ideal.ofBits .f32 0x40000000#32) (-Ideal.ofBits .f32 0x40000000#32)

/-- The word of the mask token reads as 2. -/
theorem two : Ideal.ofBits .f32 0x40000000#32 = ((2 : ℝ) : EReal) := by
  simp [Ideal.ofBits, Ideal.ieee, -EReal.coe_mul]; norm_num

/-- The tolerance is a real number, not negative, below 1. -/
theorem tol_real : ∃ t : ℝ, tol = (t : EReal) ∧ 0 ≤ t ∧ t < 1 := by
  obtain ⟨a, ha, ha0, ha1⟩ : ∃ a : ℝ, Ideal.ofBits .f32 0x322BCC77#32 = (a : EReal) ∧ 0 ≤ a ∧ a < 1 / 2 := by
    refine ⟨_, by simp [Ideal.ofBits, Ideal.ieee, -EReal.coe_mul]; rfl, ?_, ?_⟩ <;> norm_num
  obtain ⟨b, hb, hb0, hb1⟩ : ∃ b : ℝ, Ideal.ofBits .f32 0x3727C5AC#32 = (b : EReal) ∧ 0 ≤ b ∧ b < 1 / 4 := by
    refine ⟨_, by simp [Ideal.ofBits, Ideal.ieee, -EReal.coe_mul]; rfl, ?_, ?_⟩ <;> norm_num
  have hm : max ((2 : ℝ) : EReal) (-((2 : ℝ) : EReal)) = ((2 : ℝ) : EReal) :=
    max_eq_left (by rw [← EReal.coe_neg]; exact EReal.coe_le_coe_iff.2 (by norm_num))
  refine ⟨a + b * 2, ?_, by positivity, by linarith⟩
  unfold tol
  rw [ha, hb, two, hm, EReal.coe_add, EReal.coe_mul]

/-- A number equal to its floor is infinite or a whole number. -/
theorem whole_cases {x : EReal} (h : x = Ideal.liftRound Int.floor x) : x = ⊥ ∨ x = ⊤ ∨ ∃ z : ℤ, x = ((z : ℝ) : EReal) := by
  induction x with
  | bot => exact .inl rfl
  | top => exact .inr (.inl rfl)
  | coe r => exact .inr (.inr ⟨⌊r⌋, h⟩)

/-- For such a number the distance to 2 is within the tolerance exactly when it is 2. -/
theorem close_iff {x : EReal} (h : x = Ideal.liftRound Int.floor x) :
    max (x - Ideal.ofBits .f32 0x40000000#32) (-(x - Ideal.ofBits .f32 0x40000000#32)) ≤ tol
      ↔ x = Ideal.ofBits .f32 0x40000000#32 := by
  obtain ⟨t, ht, h0, h1⟩ := tol_real
  rw [ht, two]
  rcases whole_cases h with rfl | rfl | ⟨z, rfl⟩
  · simp
  · simp
  · rw [← EReal.coe_sub, ← EReal.coe_neg, ← EReal.coe_strictMono.monotone.map_max, EReal.coe_le_coe_iff, EReal.coe_eq_coe_iff]
    constructor
    · intro hle
      have h2 := abs_lt.1 (lt_of_le_of_lt hle h1 : |(z : ℝ) - 2| < 1)
      have ha : (1 : ℝ) < z := by linarith [h2.1]
      have hb : (z : ℝ) < 3 := by linarith [h2.2]
      have ha' : 1 < z := by exact_mod_cast ha
      have hb' : z < 3 := by exact_mod_cast hb
      have : z = 2 := by omega
      rw [this]; norm_num
    · intro hz
      rw [hz]; simpa using h0

/-- The number 2 truncates to the word 2. -/
theorem fptosi_two : Ideal.fptosi 32 (Ideal.ofBits .f32 0x40000000#32) = 2#32 := by
  rw [two]
  unfold Ideal.fptosi
  rw [Ideal.toIntClamped_coe]
  norm_num

end Cert.Whole

end
-- ==== Proof.RefValue.lean ====
/- The reference's result, read at one token. -/
module

public import proofs.«01_k».proof.Proof.RefArg
public import proofs.«01_k».proof.Proof.RefLogits
public import proofs.«01_k».proof.Proof.Whole
public import Idealize.ShloMosaic.Lib.Pipeline.ValueKit

@[expose] public section

set_option maxRecDepth 16384

noncomputable section

namespace Cert.ReferenceIdeal.RefValue

open Cert.ReferenceIdeal Cert.ReferenceIdeal.RefRun Idealize.ShloMosaic Idealize.ShloMosaic.TcCoe

attribute [local instance] Cert.ReferenceIdeal.Gen.facts

/-- A word turned into a number is its signed integer. -/
theorem sitofp_word (w : BitVec 32) : FloatOps.sitofp (F := Ideal) .f32 w = ((w.toInt : ℝ) : EReal) := rfl

/-- A choice on a false bit is its second value. -/
theorem select_false (q : BitVec 1) (x y : EReal) : Scalar.select (IntOp.andi (BitVec.ofBool false) q) x y = y := by
  have e : ∀ q : BitVec 1, IntOp.andi (BitVec.ofBool false) q = 0#1 := by decide
  rw [e]
  rfl

/-- The closeness test at a whole-number token is equality with 2. -/
theorem close_apply (X : FVec Ideal S2x2048 .f32) (i : Fin 2) (j : Fin 2048)
    (hw : X (ix2 i j) = Ideal.liftRound Int.floor (X (ix2 i j))) :
    close X (ix2 i j) = BitVec.ofBool (decide (X (ix2 i j) = Ideal.ofBits .f32 0x40000000#32)) := by
  rw [← decide_eq_decide.2 (Whole.close_iff hw)]
  pointwise [close]
  rfl

/-- The reference at token `(i, j)`: where the token is 2 and the draw is below one tenth, the first place at which
    `emb[2] @ W + b` is greatest; the token itself elsewhere. -/
theorem result_apply (X r : FVec Ideal S2x2048 .f32) (emb : FVec Ideal S8192x768 .f32) (W : FVec Ideal S768x8192 .f32)
    (b : FVec Ideal S8192 .f32) (i : Fin 2) (j : Fin 2048) (hw : X (ix2 i j) = Ideal.liftRound Int.floor (X (ix2 i j)))
    {n : Fin 8192} (h : ArgMax.IsFirst (fun v => (∑ k : Fin 768, emb (ix2 2 k) * W (ix2 k v)) + b (ix1 v)) n) :
    result X r emb W b (ix2 i j)
      = Scalar.select (IntOp.andi (BitVec.ofBool (decide (X (ix2 i j) = Ideal.ofBits .f32 0x40000000#32)))
          (BitVec.ofBool (decide (r (ix2 i j) < Ideal.ofBits .f32 0x3DCCCCCD#32))))
        (((n.val : ℤ) : ℝ) : EReal) (X (ix2 i j)) := by
  pointwise [result, drawn]
  rw [close_apply X i j hw]
  by_cases h2 : X (ix2 i j) = Ideal.ofBits .f32 0x40000000#32
  · have hX : fptosi 32 X (ix2 i j) = 2#32 := (congrArg (Ideal.fptosi 32) h2).trans Whole.fptosi_two
    have hl : ArgMax.IsFirst (fun v => logits X emb W b (ix3 i j v)) n := by
      have e : (fun v => logits X emb W b (ix3 i j v)) = fun v => (∑ k : Fin 768, emb (ix2 2 k) * W (ix2 k v)) + b (ix1 v) :=
        funext fun v => RefLogits.logits_apply i j X emb W b hX v
      rw [e]
      exact h
    rw [sitofp_word, RefArg.argmax_apply _ i j hl]
  · rw [decide_eq_false h2, select_false, select_false]

end Cert.ReferenceIdeal.RefValue

end
-- ==== Proof.Precondition.lean ====
/- The precondition, read at one token. -/
module

public import proofs.«01_k».proof.Proof.Gen.Pre_pre
public import Idealize.ShloMosaic.Lib.Pipeline.ValueKit
public import Idealize.ShloMosaic.Lib.Pointwise

@[expose] public section

noncomputable section

namespace Cert.Pre_pre.Read

open Cert.Pre_pre Idealize.ShloMosaic

attribute [local instance] Cert.Pre_pre.Gen.facts

/-- Where the precondition holds, every token equals its floor. -/
theorem whole (X r : FVec Ideal S2x2048 .f32) (emb : FVec Ideal S8192x768 .f32) (W : FVec Ideal S768x8192 .f32)
    (b : FVec Ideal S8192 .f32) (h : fn (F := Ideal) X r emb W b = fun _ => 1#1) (i : Fin 2) (j : Fin 2048) :
    X (ix2 i j) = Ideal.liftRound Int.floor (X (ix2 i j)) := by
  have h0 := congrFun h ix0
  revert h0
  unfold fn
  pointwise
  intro h0
  have hr : ∀ _ x y : BitVec 1, IntOp.andi x y = 1#1 ↔ x = 1#1 ∧ y = 1#1 := by
    decide
  have h1 := ((Finset.fold_op_rel_iff_and (op := IntOp.andi) (r := fun (_ x : BitVec 1) => x = 1#1)
      (fun {a x y} => hr a x y) (c := 1#1)).1 h0).2
    (i, j) (Finset.mem_univ _)
  by_contra hne
  rw [decide_eq_false hne] at h1
  exact absurd h1 (by decide)

end Cert.Pre_pre.Read

end
-- ==== Proof.Equation.lean ====
/- The equation of the two programs' results: at every token both are the same choice between the token and
   the first place at which `emb[2] @ W + b` is greatest. -/
module

public import proofs.«01_k».proof.Proof.KernelValue
public import proofs.«01_k».proof.Proof.Tail
public import proofs.«01_k».proof.Proof.RefValue
public import proofs.«01_k».proof.Proof.Precondition
public import proofs.«01_k».proof.Defs

@[expose] public section

set_option maxRecDepth 16384

noncomputable section

namespace Cert.Equation

open Cert.KernelIdeal Cert.KernelIdeal.Gen Idealize.ShloMosaic Idealize.ShloMosaic.TcCoe Idealize.SL.Sem

attribute [local instance] Cert.KernelIdeal.Gen.facts Cert.Pre_pre.Gen.facts

/-- Over whole-number tokens, and where the finished row plus the bias row is `emb[2] @ W + b`, the reference's result
    is the body's tail. -/
theorem agree (X r : Vec Ideal S2x2048 .f32) (emb : Vec Ideal S8192x768 .f32) (W : Vec Ideal S768x8192 .f32)
    (b : Vec Ideal S8192 .f32) (acc b2 : Vec Ideal S1x8192 .f32)
    (hw : ∀ (i : Fin 2) (j : Fin 2048), X (ix2 i j) = Ideal.liftRound Int.floor (X (ix2 i j)))
    (h : ∀ v : Fin 8192, acc (ix2 0 v) + b2 (ix2 0 v) = (∑ k : Fin 768, emb (ix2 2 k) * W (ix2 k v)) + b (ix1 v)) :
    Cert.ReferenceIdeal.RefRun.result X r emb W b = k0_pay4 acc b2 X r := by
  refine funext fun q => ?_
  obtain ⟨i, j, rfl⟩ : ∃ (i : Fin 2) (j : Fin 2048), q = ix2 i j := ⟨_, _, eq_ix2 q⟩
  obtain ⟨n, hn⟩ := ArgMax.exists_isFirst fun v => (∑ k : Fin 768, emb (ix2 2 k) * W (ix2 k v)) + b (ix1 v)
  have hk := hn
  rw [← funext h] at hk
  rw [Tail.tail_apply acc b2 X r i j hk]
  exact Cert.ReferenceIdeal.RefValue.result_apply X r emb W b i j (hw i j) hn

/-- Under the precondition the reference's result over the kernel's arguments is what the kernel leaves. -/
theorem equation (m : (ℓ : Loc nD τ sig) → Buf (Elt Ideal) ℓ) (hpre : Cert.Pre_KernelIdeal_pre m) (c : Dev nD) :
    Cert.ReferenceIdeal.RefRun.result (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4))
      = Cert.KernelIdeal.Value.G7 m c := by
  rw [KernelValue.value]
  exact agree _ _ _ _ _ _ _ (Cert.Pre_pre.Read.whole _ _ _ _ _ (hpre c))
    fun v => KernelValue.logit m c _ _ _ rfl rfl rfl v

end Cert.Equation

end
-- ==== Proof.lean ====
/- The claim: the frames of the three programs, the rounding claim, and the equation of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pre
public import proofs.«01_k».proof.Proof.Gen.KernelIdeal.Value
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts
  Cert.Pre_pre.Gen.facts

/-- On whole-number tokens both programs run and leave the same array. -/
theorem same_result : Cert.algebraic_KernelIdeal_ReferenceIdeal_pre_pre := by
  pair_intro
  · run_from Cert.KernelIdeal.Value.run m g
  · run_from Cert.ReferenceIdeal.RefRun.run m' g'
    exact Cert.Equation.equation m hpre _

/-- All the claims. -/
theorem claim : Cert.Claim := ⟨Cert.Kernel.Gen.facts, Cert.KernelIdeal.Gen.facts, Cert.ReferenceIdeal.Gen.facts,
  Cert.Pre_pre.Gen.facts,
  fun m g _ => Cert.Kernel.Gen.frame m g,
  fun m g _ => Cert.KernelIdeal.Gen.frame m g,
  fun m g _ => Cert.KernelIdeal.Gen.frame m g,
  Cert.ReferenceIdeal.RefRun.frame,
  fun m g _ => Cert.ReferenceIdeal.RefRun.frame m g trivial,
  trivial,
  same_result⟩

end Cert.Proof

end
